-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1000000x64 : Shape := ⟨2, ![1000000, 64]⟩
abbrev S2x100 : Shape := ⟨2, ![2, 100]⟩
abbrev S1000000x128 : Shape := ⟨2, ![1000000, 128]⟩
abbrev S20000x64 : Shape := ⟨2, ![20000, 64]⟩
abbrev S20000x128 : Shape := ⟨2, ![20000, 128]⟩

abbrev nBuf : Space → Nat
  | .hbm => 4
  | .vmem => 6
  | .smem => 0
  | _ => 0

abbrev bufTy : (tb : Table) → Fin (tcTables nBuf tb) → BufTy
  | .hbm, ⟨0, _⟩ => ⟨S1000000x64, .f32⟩
  | .hbm, ⟨1, _⟩ => ⟨S2x100, .i32⟩
  | .hbm, ⟨2, _⟩ => ⟨S1000000x64, .f32⟩
  | .hbm, ⟨3, _⟩ => ⟨S1000000x128, .f32⟩
  | .local _ .vmem, ⟨0, _⟩ => ⟨S20000x64, .f32⟩
  | .local _ .vmem, ⟨1, _⟩ => ⟨S20000x64, .f32⟩
  | .local _ .vmem, ⟨2, _⟩ => ⟨S20000x64, .f32⟩
  | .local _ .vmem, ⟨3, _⟩ => ⟨S20000x64, .f32⟩
  | .local _ .vmem, ⟨4, _⟩ => ⟨S20000x128, .f32⟩
  | .local _ .vmem, ⟨5, _⟩ => ⟨S20000x128, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S1000000x64 : Shape := ⟨2, ![1000000, 64]⟩
abbrev S2x100 : Shape := ⟨2, ![2, 100]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩

abbrev nBuf : Space → Nat
  | .hbm => 28
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S2x100, .i32⟩
  | .hbm, ⟨2, _⟩ => ⟨S1000000x64, .f32⟩
  | .hbm, ⟨3, _⟩ => ⟨S1000000, .i32⟩
  | .hbm, ⟨4, _⟩ => ⟨S_, .i32⟩
  | .hbm, ⟨5, _⟩ => ⟨S1000000, .i32⟩
  | .hbm, ⟨6, _⟩ => ⟨S1000000, .i1⟩
  | .hbm, ⟨7, _⟩ => ⟨S_, .i32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S1000000x1, .i32⟩
  | .hbm, ⟨12, _⟩ => ⟨S1, .i32⟩
  | .hbm, ⟨13, _⟩ => ⟨S_, .i32⟩
  | .hbm, ⟨14, _⟩ => ⟨S1000000x1, .i32⟩
  | .hbm, ⟨15, _⟩ => ⟨S1000000x1, .i1⟩
  | .hbm, ⟨16, _⟩ => ⟨S1x1, .i32⟩
  | .hbm, ⟨17, _⟩ => ⟨S1000000x1, .i32⟩
  | .hbm, ⟨18, _⟩ => ⟨S1000000x1, .i1⟩
  | .hbm, ⟨19, _⟩ => ⟨S1000000x1, .i1⟩
  | .hbm, ⟨20, _⟩ => ⟨S_, .i1⟩
  | .hbm, ⟨21, _⟩ => ⟨S1000000, .i1⟩
  | .hbm, ⟨22, _⟩ => ⟨S1000000x64, .f32⟩
  | .hbm, ⟨23, _⟩ => ⟨S1000000x64, .i1⟩
  | .hbm, ⟨24, _⟩ => ⟨S_, .f32⟩
  | .hbm, ⟨25, _⟩ => ⟨S1000000x64, .f32⟩
  | .hbm, ⟨26, _⟩ => ⟨S1000000x64, .f32⟩
  | .hbm, ⟨27, _⟩ => ⟨S1000000x128, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Halves.lean ====
/-
  Two arrays of 64 columns side by side, as one array of 128 columns (hand-written, untrusted): the function, what two
  stores into the two column halves of a buffer leave, and the block of rows that a whole array's function has.
  Nothing here names a program: the lemmas are for any element type and any number of rows.
-/
module

public import Idealize.ShloMosaic.Lib.Pipeline.Value
public import Idealize.ShloMosaic.Lib.ValueIdxCore

@[expose] public section

noncomputable section

namespace Cert.Halves

open Idealize.ShloMosaic Idealize.ShloMosaic.ValueIdx Idealize.SL.Sem

/-- The index set of an array of `n` rows of 64 columns, and of 128 columns. -/
abbrev Half (n : Nat) : Shape := ⟨2, ![n, 64]⟩
abbrev Full (n : Nat) : Shape := ⟨2, ![n, 128]⟩

/-- `l` in columns 0–63 and `r` in columns 64–127. -/
def beside {n : Nat} {α : Type} (l r : (Half n).Idx → α) : (Full n).Idx → α := fun i =>
  if h : (i 1).val < 64 then l (ix2 (i 0) ⟨(i 1).val, h⟩)
  else r (ix2 (i 0) ⟨(i 1).val - 64, by have := idx2_lt1 i; omega⟩)

/-- `beside` at an index whose column is in the left half: the left array at the same row and column. -/
theorem beside_left {n : Nat} {α : Type} (l r : (Half n).Idx → α) (i : (Full n).Idx) (k : (Half n).Idx)
    (h0 : (k 0).val = (i 0).val) (h1 : (k 1).val = (i 1).val) : beside l r i = l k := by
  have hk := idx2_lt1 k
  unfold beside
  rw [dif_pos (by omega)]
  exact congrArg l (Shape.idx_ext₂ h0.symm h1.symm)

/-- `beside` at an index whose column is in the right half: the right array at the same row, 64 columns to the left. -/
theorem beside_right {n : Nat} {α : Type} (l r : (Half n).Idx → α) (i : (Full n).Idx) (k : (Half n).Idx)
    (h0 : (k 0).val = (i 0).val) (h1 : (k 1).val + 64 = (i 1).val) : beside l r i = r k := by
  unfold beside
  rw [dif_neg (by omega)]
  exact congrArg r (Shape.idx_ext₂ h0.symm (show (i 1).val - 64 = (k 1).val by omega))

/-- A buffer into whose left half `l` and into whose right half `r` was stored holds the two side by side. -/
theorem canon_halves {n : Nat} {Val : EltTy → Type} [∀ e, Nonempty (Val e)] {e : EltTy} (l r : (Half n).Idx → Val e)
    (inbl : ∀ a, (![0, 0] : Fin 2 → Nat) a + (Half n).size a ≤ (Full n).size a)
    (inbr : ∀ a, (![0, 64] : Fin 2 → Nat) a + (Half n).size a ≤ (Full n).size a) :
    View.canon [(⟨Rect.unit (s := Full n) ![0, 64] (Half n).size inbr, r⟩ : View.Piece Val (Full n) e),
      ⟨Rect.unit (s := Full n) ![0, 0] (Half n).size inbl, l⟩] = beside l r := by
  funext y
  refine View.canon_apply_of_pieces _ _ (fun p hp x => ?_) y ?_
  · rcases List.mem_cons.mp hp with rfl | hp
    · refine (beside_right l r _ x ?_ ?_).symm
      · show (x 0).val = 0 + 1 * (x 0).val; omega
      · show (x 1).val + 64 = 64 + 1 * (x 1).val; omega
    · obtain rfl := List.mem_singleton.mp hp
      refine (beside_left l r _ x ?_ ?_).symm
      · show (x 0).val = 0 + 1 * (x 0).val; omega
      · show (x 1).val = 0 + 1 * (x 1).val; omega
  · have h0 := idx2_lt0 y
    have h1 := idx2_lt1 y
    by_cases hc : (y 1).val < 64
    · refine ⟨_, List.mem_cons_of_mem _ (List.mem_singleton_self _), (Rect.mem_set_unit (inb := inbl)).mpr (Fin.forall_fin_two.mpr ⟨?_, ?_⟩)⟩
      · show 0 ≤ (y 0).val ∧ (y 0).val < 0 + n; omega
      · show 0 ≤ (y 1).val ∧ (y 1).val < 0 + 64; omega
    · refine ⟨_, List.mem_cons_self, (Rect.mem_set_unit (inb := inbr)).mpr (Fin.forall_fin_two.mpr ⟨?_, ?_⟩)⟩
      · show 0 ≤ (y 0).val ∧ (y 0).val < 0 + n; omega
      · show 64 ≤ (y 1).val ∧ (y 1).val < 64 + 64; omega

/-- The rows from `o` on of two arrays side by side are those rows of each, side by side: `l'`, `r'` the blocks of `l`, `r`
    (`hl`, `hr`: a block's element is the array's at the index `o` rows below), `i` the index `o` rows below `y`. -/
theorem beside_rows {n N o : Nat} {α : Type} (l r : (Half N).Idx → α) (l' r' : (Half n).Idx → α)
    (hl : ∀ (k' : (Half n).Idx) (k : (Half N).Idx), (k 0).val = o + (k' 0).val → (k 1).val = (k' 1).val → l' k' = l k)
    (hr : ∀ (k' : (Half n).Idx) (k : (Half N).Idx), (k 0).val = o + (k' 0).val → (k 1).val = (k' 1).val → r' k' = r k)
    (y : (Full n).Idx) (i : (Full N).Idx) (h0 : (i 0).val = o + (y 0).val) (h1 : (i 1).val = (y 1).val) :
    beside l' r' y = beside l r i := by
  have hi := idx2_lt1 i
  by_cases hc : (i 1).val < 64
  · rw [beside_left l' r' y (ix2 (y 0) ⟨(y 1).val, by omega⟩) rfl rfl, beside_left l r i (ix2 (i 0) ⟨(i 1).val, hc⟩) rfl rfl]
    exact hl _ _ h0 h1
  · rw [beside_right l' r' y (ix2 (y 0) ⟨(y 1).val - 64, by omega⟩) rfl (by show (y 1).val - 64 + 64 = _; omega),
      beside_right l r i (ix2 (i 0) ⟨(i 1).val - 64, by omega⟩) rfl (by show (i 1).val - 64 + 64 = _; omega)]
    exact hr _ _ h0 (by show (i 1).val - 64 = (y 1).val - 64; omega)

/-- jnp's concatenation of the two arrays along the columns is the two side by side. -/
theorem concatenate_eq_beside {n : Nat} {α : Type} (l r : (Half n).Idx → α)
    (h : Shape.Concatenates [Half n, Half n] (Full n) 1) :
    concatenate (Full n) 1 [⟨Half n, l⟩, ⟨Half n, r⟩] h = beside l r := by
  funext i
  have hi := idx2_lt1 i
  by_cases hc : (i 1).val < 64
  · rw [beside_left l r i (ix2 (i 0) ⟨(i 1).val, hc⟩) rfl rfl]
    exact concatenate_pair_apply_left 1 l r h i rfl _ (Fin.forall_fin_two.mpr ⟨rfl, rfl⟩)
  · have hcol : (i 1).val - 64 + 64 = (i 1).val := by omega
    rw [beside_right l r i (ix2 (i 0) ⟨(i 1).val - 64, by omega⟩) rfl hcol]
    exact concatenate_pair_apply_right 1 l r h i rfl rfl _
      (Fin.forall_fin_two.mpr ⟨fun _ => rfl, fun hne => absurd rfl hne⟩) hcol

end Cert.Halves

end
-- ==== Proof.KernelValue.lean ====
/-
  What the kernel leaves in its result (hand-written, untrusted): the `lt` array and the `x` array side by side. A grid point
  stores its 20000 rows of `lt` into columns 0–63 and of `x` into columns 64–127 of the block it writes back, so what it
  writes back is those rows of the two side by side; the 50 points' blocks cover the 1000000 rows. The argument is made once
  per program text — the kernel and its idealization — and holds for any float values.
-/
module

public import proofs.«01_k».proof.Proof.Halves
public import proofs.«01_k».proof.Proof.Gen.Kernel.Value
public import proofs.«01_k».proof.Proof.Gen.KernelIdeal.Value
public import Idealize.ShloMosaic.Lib.Pipeline.ValueKit.Geometry

@[expose] public section

noncomputable section

open Idealize.ShloMosaic Idealize.ShloMosaic.TcCoe Idealize.SL.Sem

namespace Cert.Kernel.Whole

open Cert.Kernel Cert.Kernel.Gen

variable {F : FTy → Type} [FloatOps F]
variable (m : (ℓ : Loc nD τ sig) → Buf (Elt F) ℓ) (ρ : Dev nD → PrngReg)

/-- The result of device `c`: its third argument (`lt`) and its first (`x`) side by side. -/
abbrev result (c : Dev nD) : Buf (Elt F) ((c : Thread nD τ).loc main_v0) :=
  Halves.beside (n := 1000000) (m ((c : Thread nD τ).loc main_arg2)) (m ((c : Thread nD τ).loc main_arg0))

/-- Point `t` is at block `t` of the rows and at the one block of the columns, in all three windows. -/
theorem index_at : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- The corner at which the body loads its blocks is the origin. -/
theorem origin : (![0, 0] : Fin 2 → Nat) = fun _ => 0 := funext (Fin.forall_fin_two.mpr ⟨rfl, rfl⟩)

/-- What the body leaves in the block it writes back: its two input blocks side by side. -/
theorem out_eq (x0 x1 : Vec F S20000x64 .f32) : out0_2 x0 x1 = Halves.beside (n := 20000) x0 x1 := by
  unfold out0_2
  rw [View.ld_unit_zero origin, View.ld_unit_zero origin]
  exact Halves.canon_halves (n := 20000) x0 x1 _ _

/-- Block `t` of the `lt` array, read at an index: the array 20000·`t` rows below. -/
theorem lt_block (c : Dev nD) (t : Fin cfg0.N) (k' : S20000x64.Idx) (k : S1000000x64.Idx)
    (h0 : (k 0).val = t.val * 20000 + (k' 0).val) (h1 : (k 1).val = (k' 1).val) :
    iblk m c 0 t k' = m ((c : Thread nD τ).loc main_arg2) k := by
  have hx := (index_at t).1
  refine congrArg (m ((c : Thread nD τ).loc main_arg2)) (Shape.idx_ext₂ ?_ ?_)
  · refine ((win0_0.rect_emb_val t k' 0).trans ?_).trans h0.symm
    rw [hx.1]; rfl
  · refine ((win0_0.rect_emb_val t k' 1).trans ?_).trans h1.symm
    rw [hx.2]; exact (congrArg (· + (k' 1).val) (Nat.zero_mul _)).trans (Nat.zero_add _)

/-- The same of the `x` array. -/
theorem x_block (c : Dev nD) (t : Fin cfg0.N) (k' : S20000x64.Idx) (k : S1000000x64.Idx)
    (h0 : (k 0).val = t.val * 20000 + (k' 0).val) (h1 : (k 1).val = (k' 1).val) :
    iblk m c 1 t k' = m ((c : Thread nD τ).loc main_arg0) k := by
  have hx := (index_at t).2.1
  refine congrArg (m ((c : Thread nD τ).loc main_arg0)) (Shape.idx_ext₂ ?_ ?_)
  · refine ((win0_1.rect_emb_val t k' 0).trans ?_).trans h0.symm
    rw [hx.1]; rfl
  · refine ((win0_1.rect_emb_val t k' 1).trans ?_).trans h1.symm
    rw [hx.2]; exact (congrArg (· + (k' 1).val) (Nat.zero_mul _)).trans (Nat.zero_add _)

/-- What point `t` writes back is block `t` of the two arrays side by side. -/
theorem flushed_eq (c : Dev nD) (t : Fin cfg0.N) :
    (dats m 0 c).flushed 2 t = (win0_2.blk t).view.read (Elt F) (result m c) := by
  rw [Value.flushed2, out_eq]
  have hx := (index_at t).2.2
  funext y
  refine Halves.beside_rows (n := 20000) (N := 1000000) (o := t.val * 20000) _ _ _ _ (lt_block m c t) (x_block m c t) y _ ?_ ?_
  · refine (win0_2.rect_emb_val t y 0).trans ?_
    rw [hx.1]; rfl
  · refine (win0_2.rect_emb_val t y 1).trans ?_
    rw [hx.2]; exact (congrArg (· + (y 1).val) (Nat.zero_mul _)).trans (Nat.zero_add _)

/-- The points' blocks cover the result. -/
theorem covers : (cfg0.win 2).Covers := by decide +kernel

/-- After the last point the result array holds the two arrays side by side. -/
theorem final (c : Dev nD) : (dats m 0 c).arrAt 2 cfg0.N = result m c :=
  (dats m 0 c).arrAt_eq_of_cover 2 (result m c) (fun t _ => flushed_eq m c t) (Pipeline.Window.Covers.cover _ covers (Memref.isWhole_whole _))

/-- The run: every execution ends with the two arrays side by side in the result and the arguments as they were. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel.Whole

namespace Cert.KernelIdeal.Whole

open Cert.KernelIdeal Cert.KernelIdeal.Gen

variable {F : FTy → Type} [FloatOps F]
variable (m : (ℓ : Loc nD τ sig) → Buf (Elt F) ℓ) (ρ : Dev nD → PrngReg)

/-- The result of device `c`: its third argument (`lt`) and its first (`x`) side by side. -/
abbrev result (c : Dev nD) : Buf (Elt F) ((c : Thread nD τ).loc main_v0) :=
  Halves.beside (n := 1000000) (m ((c : Thread nD τ).loc main_arg2)) (m ((c : Thread nD τ).loc main_arg0))

/-- Point `t` is at block `t` of the rows and at the one block of the columns, in all three windows. -/
theorem index_at : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- The corner at which the body loads its blocks is the origin. -/
theorem origin : (![0, 0] : Fin 2 → Nat) = fun _ => 0 := funext (Fin.forall_fin_two.mpr ⟨rfl, rfl⟩)

/-- What the body leaves in the block it writes back: its two input blocks side by side. -/
theorem out_eq (x0 x1 : Vec F S20000x64 .f32) : out0_2 x0 x1 = Halves.beside (n := 20000) x0 x1 := by
  unfold out0_2
  rw [View.ld_unit_zero origin, View.ld_unit_zero origin]
  exact Halves.canon_halves (n := 20000) x0 x1 _ _

/-- Block `t` of the `lt` array, read at an index: the array 20000·`t` rows below. -/
theorem lt_block (c : Dev nD) (t : Fin cfg0.N) (k' : S20000x64.Idx) (k : S1000000x64.Idx)
    (h0 : (k 0).val = t.val * 20000 + (k' 0).val) (h1 : (k 1).val = (k' 1).val) :
    iblk m c 0 t k' = m ((c : Thread nD τ).loc main_arg2) k := by
  have hx := (index_at t).1
  refine congrArg (m ((c : Thread nD τ).loc main_arg2)) (Shape.idx_ext₂ ?_ ?_)
  · refine ((win0_0.rect_emb_val t k' 0).trans ?_).trans h0.symm
    rw [hx.1]; rfl
  · refine ((win0_0.rect_emb_val t k' 1).trans ?_).trans h1.symm
    rw [hx.2]; exact (congrArg (· + (k' 1).val) (Nat.zero_mul _)).trans (Nat.zero_add _)

/-- The same of the `x` array. -/
theorem x_block (c : Dev nD) (t : Fin cfg0.N) (k' : S20000x64.Idx) (k : S1000000x64.Idx)
    (h0 : (k 0).val = t.val * 20000 + (k' 0).val) (h1 : (k 1).val = (k' 1).val) :
    iblk m c 1 t k' = m ((c : Thread nD τ).loc main_arg0) k := by
  have hx := (index_at t).2.1
  refine congrArg (m ((c : Thread nD τ).loc main_arg0)) (Shape.idx_ext₂ ?_ ?_)
  · refine ((win0_1.rect_emb_val t k' 0).trans ?_).trans h0.symm
    rw [hx.1]; rfl
  · refine ((win0_1.rect_emb_val t k' 1).trans ?_).trans h1.symm
    rw [hx.2]; exact (congrArg (· + (k' 1).val) (Nat.zero_mul _)).trans (Nat.zero_add _)

/-- What point `t` writes back is block `t` of the two arrays side by side. -/
theorem flushed_eq (c : Dev nD) (t : Fin cfg0.N) :
    (dats m 0 c).flushed 2 t = (win0_2.blk t).view.read (Elt F) (result m c) := by
  rw [Value.flushed2, out_eq]
  have hx := (index_at t).2.2
  funext y
  refine Halves.beside_rows (n := 20000) (N := 1000000) (o := t.val * 20000) _ _ _ _ (lt_block m c t) (x_block m c t) y _ ?_ ?_
  · refine (win0_2.rect_emb_val t y 0).trans ?_
    rw [hx.1]; rfl
  · refine (win0_2.rect_emb_val t y 1).trans ?_
    rw [hx.2]; exact (congrArg (· + (y 1).val) (Nat.zero_mul _)).trans (Nat.zero_add _)

/-- The points' blocks cover the result. -/
theorem covers : (cfg0.win 2).Covers := by decide +kernel

/-- After the last point the result array holds the two arrays side by side. -/
theorem final (c : Dev nD) : (dats m 0 c).arrAt 2 cfg0.N = result m c :=
  (dats m 0 c).arrAt_eq_of_cover 2 (result m c) (fun t _ => flushed_eq m c t) (Pipeline.Window.Covers.cover _ covers (Memref.isWhole_whole _))

/-- The run: every execution ends with the two arrays side by side in the result and the arguments as they were. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Whole

end
-- ==== Proof.TakeAll.lean ====
/-
  jnp's `take(lt, arange(n), axis=0)`, for `lt` of `n` rows, is `lt` (hand-written, untrusted). As printed it is: the row numbers, a negative one
  wrapped; the bit that says whether a row number is in range; the gather of the rows; and a fill value where the bit is
  clear. Here: the row numbers are 0, 1, 2, … as 32-bit words, none of which is negative, all are in range, so the gather reads
  row `i` for row `i` and the fill value is never taken. For any number of rows below 2³¹, any element type and whatever the fill value is.
-/
module

public import Idealize.ShloMosaic.Lib.ValueIdxCore
public import Idealize.ShloMosaic.Lib.WordCmp
public import Idealize.ShloMosaic.Lib.Pipeline.Value

@[expose] public section

noncomputable section

namespace Cert.TakeAll

open Idealize.ShloMosaic Idealize.ShloMosaic.ValueIdx Idealize.SL.Sem

/-! ## A gather of whole rows, read at an index -/

section Gather

variable {N B C w : Nat} {α : Type}

/-- The gather's dimension numbers: operand `[N, C]`, one row number per result row, whole rows read. -/
abbrev rowsDims (N B C : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Where row `j 0`'s row number is the word of `k 0`, and the columns agree, the gather at `j` reads the operand at `k`. -/
theorem gather_rows (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (j : (⟨2, ![B, C]⟩ : Shape).Idx)
    (k : (⟨2, ![N, C]⟩ : Shape).Idx) (h0 : (idx (ix2 (j 0) 0)).toInt = ((k 0).val : Int)) (h1 : (k 1).val = (j 1).val) :
    Host.gather (rowsDims N B C wf) x idx j = x k := by
  refine congrArg x (Shape.idx_ext₂ ?_ ?_)
  · show (rowsDims N B C wf).start j idx 0 + (rowsDims N B C wf).batchCoord j 0 + (rowsDims N B C wf).offCoord j 0 = (k 0).val
    rw [GatherDims.batchCoord_eq_zero _ _ _ List.not_mem_nil,
      GatherDims.offCoord_eq_zero _ _ _ fun h => ((GatherDims.mem_sKept _ _).mp h).1 (List.mem_singleton.mpr rfl)]
    unfold GatherDims.start
    rw [dif_pos (List.mem_singleton.mpr rfl)]
    have hk := idx2_lt0 k
    have hat : (rowsDims N B C wf).siIdx j ⟨List.idxOf (0 : Fin 2) (rowsDims N B C wf).startIndexMap,
        List.idxOf_lt_length_iff.2 (List.mem_singleton.mpr rfl)⟩ = ix2 (j 0) 0 := Shape.idx_ext₂ rfl rfl
    have hval := (congrArg (fun p => (idx p).toInt) hat).trans h0
    refine (congrArg (fun v : Int => min v.toNat (N - 1) + 0 + 0) hval).trans ?_
    show min ((k 0).val : Int).toNat (N - 1) + 0 + 0 = (k 0).val
    omega
  · show (rowsDims N B C wf).start j idx 1 + (rowsDims N B C wf).batchCoord j 1 + (rowsDims N B C wf).offCoord j 1 = (k 1).val
    rw [GatherDims.batchCoord_eq_zero _ _ _ List.not_mem_nil]
    unfold GatherDims.start
    rw [dif_neg (by decide : (1 : Fin 2) ∉ [(0 : Fin 2)]), h1]
    show 0 + 0 + (j 1).val = (j 1).val
    omega

end Gather

/-! ## The row numbers and the range test -/

abbrev Scal : Shape := ⟨0, ![]⟩
abbrev One : Shape := ⟨1, ![1]⟩
abbrev OneOne : Shape := ⟨2, ![1, 1]⟩
abbrev Row (n : Nat) : Shape := ⟨1, ![n]⟩
abbrev Col (n : Nat) : Shape := ⟨2, ![n, 1]⟩
abbrev Tab (n c : Nat) : Shape := ⟨2, ![n, c]⟩

/-- The row numbers `i` of `n` rows as jnp wraps them: `where(i < 0, i + wrap, i)`. -/
abbrev rowNums (n : Nat) (wrap : BitVec 32) (hb : Scal.BroadcastsInDim (Row n) (![] : Fin 0 → Fin (Row n).rank)) : IVec (Row n) 32 :=
  select (cmpi .slt (iotaInDim (Row n) 32 0) (broadcastInDim (Row n) ![] hb (constantI Scal 32 0#32)))
    (addi (iotaInDim (Row n) 32 0) (broadcastInDim (Row n) ![] hb (constantI Scal 32 wrap))) (iotaInDim (Row n) 32 0)

/-- No row number is negative, so row `i`'s is `i`. -/
theorem rowNums_apply {n : Nat} (hn : n ≤ 2147483648) (wrap : BitVec 32)
    (hb : Scal.BroadcastsInDim (Row n) (![] : Fin 0 → Fin (Row n).rank)) (i : (Row n).Idx) :
    rowNums n wrap hb i = BitVec.ofNat 32 (i 0).val := by
  have hi : (i 0).val < n := (i 0).isLt
  show Scalar.select (IntOp.cmpi .slt (BitVec.ofNat 32 (i 0).val) (BitVec.ofNat 32 0)) _ (BitVec.ofNat 32 (i 0).val) = _
  rw [WordCmp.cmpi_slt_ofNat (by omega) (by omega), decide_eq_false (by omega)]
  rfl

/-- The same as a column. -/
abbrev rowCol (n : Nat) (wrap : BitVec 32) (hb : Scal.BroadcastsInDim (Row n) (![] : Fin 0 → Fin (Row n).rank))
    (hc : (Row n).BroadcastsInDim (Col n) (![0] : Fin 1 → Fin (Col n).rank)) : IVec (Col n) 32 :=
  broadcastInDim (Col n) ![0] hc (rowNums n wrap hb)

/-- Row `i` of the column is `i`. -/
theorem rowCol_apply {n : Nat} (hn : n ≤ 2147483648) (wrap : BitVec 32)
    (hb : Scal.BroadcastsInDim (Row n) (![] : Fin 0 → Fin (Row n).rank))
    (hc : (Row n).BroadcastsInDim (Col n) (![0] : Fin 1 → Fin (Col n).rank)) (i : (Col n).Idx) :
    rowCol n wrap hb hc i = BitVec.ofNat 32 (i 0).val := by
  have hi := idx2_lt0 i
  have hat : rowCol n wrap hb hc i = rowNums n wrap hb (ix1 (i 0)) := by
    refine broadcastInDim_apply (s := Row n) (t := Col n) _ hc (rowNums n wrap hb) i (ix1 (i 0)) fun a => ?_
    obtain rfl : a = 0 := Subsingleton.elim _ _
    by_cases h : n = 1
    · exact (show (i 0).val = 0 by omega).trans (if_pos h).symm
    · exact (if_neg h).symm
  exact hat.trans (rowNums_apply hn wrap hb (ix1 (i 0)))

/-- A word up to `last` passes both comparisons of the range test. -/
theorem inRange {last k : Nat} (hlast : last < 2147483648) (hk : k ≤ last) :
    IntOp.andi (IntOp.cmpi .sge (BitVec.ofNat 32 k) (BitVec.ofNat 32 0))
      (IntOp.cmpi .sle (BitVec.ofNat 32 k) (BitVec.ofNat 32 last)) = 1#1 := by
  rw [WordCmp.cmpi_sge_ofNat (by omega) (by omega), WordCmp.cmpi_sle_ofNat (by omega) (by omega), decide_eq_true (by omega),
    decide_eq_true hk]
  rfl

/-- A conjunction of bits all set, from a set bit, is set, however many there are. -/
theorem foldl_andi {ι : Type} (f : ι → BitVec 1) (hf : ∀ n, f n = 1#1) :
    ∀ L : List ι, L.foldl (fun r n => IntOp.andi r (f n)) 1#1 = 1#1
  | [] => rfl
  | n :: L => by
    rw [List.foldl_cons, hf n]
    exact foldl_andi f hf L

/-- So the host's reduction by conjunction of an array of set bits, from a set bit, is set everywhere. -/
theorem reduce_andi {s t u : Shape} {dims : List (Fin s.rank)} (x : IVec s 1) (z : IVec u 1) (hr : s.ReducesTo dims t)
    (hu : 0 < u.numel) (hx : ∀ i, x i = 1#1) (hz : ∀ i, z i = 1#1) (i : t.Idx) : Host.reduce IntOp.andi x z hr hu i = 1#1 := by
  unfold Host.reduce
  rw [hz]
  exact foldl_andi _ (fun n => hx _) _

/-! ## The take -/

/-- `take(lt, arange(n), axis=0)` as printed, with `fill` where a row number is out of range, is `lt`. -/
theorem take_all {α : Type} {n c last : Nat} (hn : n ≤ last + 1) (hlast : last < 2147483648) (wrap : BitVec 32)
    (hb : Scal.BroadcastsInDim (Row n) (![] : Fin 0 → Fin (Row n).rank))
    (hc : (Row n).BroadcastsInDim (Col n) (![0] : Fin 1 → Fin (Col n).rank))
    (hz : Scal.BroadcastsInDim (Col n) (![] : Fin 0 → Fin (Col n).rank))
    (h1 : One.BroadcastsInDim OneOne (![1] : Fin 1 → Fin OneOne.rank))
    (h2 : OneOne.BroadcastsInDim (Col n) (![0, 1] : Fin 2 → Fin (Col n).rank))
    (hr : (Col n).ReducesTo [1] (Row n)) (hu : 0 < Scal.numel)
    (hm : (Row n).BroadcastsInDim (Tab n c) (![0] : Fin 1 → Fin (Tab n c).rank))
    (wf : GatherDims.WF (Tab n c) (Col n) (Tab n c) [1] [0] [] [0] [] 1 ![1, c]) (lt fill : (Tab n c).Idx → α) :
    select (broadcastInDim (Tab n c) ![0] hm
        (Host.reduce IntOp.andi
          (andi (cmpi .sge (rowCol n wrap hb hc) (broadcastInDim (Col n) ![] hz (constantI Scal 32 0#32)))
            (cmpi .sle (rowCol n wrap hb hc)
              (broadcastInDim (Col n) ![0, 1] h2
                (broadcastInDim OneOne ![1] h1 (constantI One 32 (BitVec.ofNat 32 last))))))
          (constantI Scal 1 1#1) hr hu))
      (Host.gather (rowsDims n n c wf) lt (rowCol n wrap hb hc)) fill = lt := by
  funext j
  have hj := idx2_lt0 j
  have hmask : ∀ i, Host.reduce IntOp.andi
      (andi (cmpi .sge (rowCol n wrap hb hc) (broadcastInDim (Col n) ![] hz (constantI Scal 32 0#32)))
        (cmpi .sle (rowCol n wrap hb hc)
          (broadcastInDim (Col n) ![0, 1] h2 (broadcastInDim OneOne ![1] h1 (constantI One 32 (BitVec.ofNat 32 last))))))
      (constantI Scal 1 1#1) hr hu i = 1#1 := by
    refine reduce_andi _ _ hr hu (fun i => ?_) fun _ => rfl
    have hi := idx2_lt0 i
    show IntOp.andi (IntOp.cmpi .sge (rowCol n wrap hb hc i) (BitVec.ofNat 32 0))
      (IntOp.cmpi .sle (rowCol n wrap hb hc i) (BitVec.ofNat 32 last)) = 1#1
    rw [rowCol_apply (by omega)]
    exact inRange hlast (by omega)
  refine (congrArg (fun b => Scalar.select b _ _) (hmask _)).trans ?_
  rw [select_one]
  refine gather_rows wf lt _ j j ?_ rfl
  rw [rowCol_apply (by omega)]
  show (BitVec.ofNat 32 (j 0).val).toInt = ((j 0).val : Int)
  have hw : (BitVec.ofNat 32 (j 0).val).toNat = (j 0).val := by rw [BitVec.toNat_ofNat]; exact Nat.mod_eq_of_lt (by omega)
  rw [BitVec.toInt_eq_toNat_of_lt (by omega), hw]

end Cert.TakeAll

end
-- ==== Proof.ReferenceValue.lean ====
/-
  What the reference leaves in its result (hand-written, untrusted): the `lt` array and the `x` array side by side. Its take of
  every row of `lt` is `lt`, and its concatenation along the columns sets the two side by side; for any float values. Also
  that it runs and leaves its arguments and the (no) semaphores as they were.
-/
module

public import proofs.«01_k».proof.Proof.Halves
public import proofs.«01_k».proof.Proof.TakeAll
public import proofs.«01_k».proof.Proof.Gen.Reference.Run
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Reference.Whole

open Cert.Reference Cert.Reference.Gen

variable {F : FTy → Type} [FloatOps F]
variable (m : (ℓ : Loc nD τ sig) → Buf (Elt F) ℓ) (ρ : Dev nD → PrngReg)

/-- The result of device `c`: its third argument (`lt`) and its first (`x`) side by side. -/
abbrev result (c : Dev nD) : Buf (Elt F) ((c : Thread nD τ).loc main_v2) :=
  Halves.beside (n := 1000000) (m ((c : Thread nD τ).loc main_arg2)) (m ((c : Thread nD τ).loc main_arg0))

/-- The run: every execution ends with the two arrays side by side in the result and the arguments as they were. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨(h c).1.trans ?_, (h c).2⟩) (Value.run m ρ)
  refine (Halves.concatenate_eq_beside (n := 1000000) _ _ _).trans ?_
  exact congrArg (Halves.beside (n := 1000000) · (m ((c : Thread nD τ).loc main_arg0)))
    (TakeAll.take_all (n := 1000000) (c := 64) (last := 999999) (by omega) (by omega) 1000000#32 bcast_S_S1000000
      bcast_S1000000_S1000000x1_0 bcast_S_S1000000x1 bcast_S1_S1x1_1 bcast_S1x1_S1000000x1_0_1
      reducesTo_S1000000x1_S1000000_d1 h_S_ bcast_S1000000_S1000000x64_0
      gather_S1000000x64_S1000000x1_S1000000x64_1_0_n_n_0_1_164_wf _ _)

/-- It runs, its arguments end as they were, and no semaphore is left raised (it has none). -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r h => ⟨fun c => (h c).2, sem_eq_zero_of_no_sems (by decide) r.2⟩) (run m ρ)

end Cert.Reference.Whole

namespace Cert.ReferenceIdeal.Whole

open Cert.ReferenceIdeal Cert.ReferenceIdeal.Gen

variable {F : FTy → Type} [FloatOps F]
variable (m : (ℓ : Loc nD τ sig) → Buf (Elt F) ℓ) (ρ : Dev nD → PrngReg)

/-- The result of device `c`: its third argument (`lt`) and its first (`x`) side by side. -/
abbrev result (c : Dev nD) : Buf (Elt F) ((c : Thread nD τ).loc main_v2) :=
  Halves.beside (n := 1000000) (m ((c : Thread nD τ).loc main_arg2)) (m ((c : Thread nD τ).loc main_arg0))

/-- The run: every execution ends with the two arrays side by side in the result and the arguments as they were. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨(h c).1.trans ?_, (h c).2⟩) (Value.run m ρ)
  refine (Halves.concatenate_eq_beside (n := 1000000) _ _ _).trans ?_
  exact congrArg (Halves.beside (n := 1000000) · (m ((c : Thread nD τ).loc main_arg0)))
    (TakeAll.take_all (n := 1000000) (c := 64) (last := 999999) (by omega) (by omega) 1000000#32 bcast_S_S1000000
      bcast_S1000000_S1000000x1_0 bcast_S_S1000000x1 bcast_S1_S1x1_1 bcast_S1x1_S1000000x1_0_1
      reducesTo_S1000000x1_S1000000_d1 h_S_ bcast_S1000000_S1000000x64_0
      gather_S1000000x64_S1000000x1_S1000000x64_1_0_n_n_0_1_164_wf _ _)

/-- It runs, its arguments end as they were, and no semaphore is left raised (it has none). -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r h => ⟨fun c => (h c).2, sem_eq_zero_of_no_sems (by decide) r.2⟩) (run m ρ)

end Cert.ReferenceIdeal.Whole

end
-- ==== Proof.lean ====
/-
  The certificate of the concatenation kernel (hand-written, untrusted): the kernel, its idealization and the two printings of the
  reference all leave `lt` and `x` side by side in their result (Proof/KernelValue.lean, Proof/ReferenceValue.lean), so from
  equal arguments the results are equal — at the exact values and, since nothing is computed, bit for bit.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Reference
public import proofs.«01_k».proof.Proof.Gen.ReferenceIdeal
public import proofs.«01_k».proof.Proof.KernelValue
public import proofs.«01_k».proof.Proof.ReferenceValue

@[expose] public section

noncomputable section

namespace Cert.Proof

open Idealize.ShloMosaic Idealize.ShloMosaic.TcCoe Idealize.SL.Sem

/-- The reference's result on arguments equal to the kernel's is the kernel's, at the exact values. -/
theorem result_ideal (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h2 : m' ((c.tc : Thread ReferenceIdeal.nD ReferenceIdeal.τ).loc ReferenceIdeal.main_arg2)
      = m ((c.tc : Thread KernelIdeal.nD KernelIdeal.τ).loc KernelIdeal.main_arg2)) :
    ReferenceIdeal.Whole.result m' c = KernelIdeal.Whole.result m c :=
  congrArg₂ (Halves.beside (n := 1000000)) h2 h0

/-- The same of the words. -/
theorem result_bits (m : (ℓ : Loc Kernel.nD Kernel.τ Kernel.sig) → Buf (Elt Bits) ℓ)
    (m' : (ℓ : Loc Reference.nD Reference.τ Reference.sig) → Buf (Elt Bits) ℓ) (c : Dev Kernel.nD)
    (h0 : m' ((c.tc : Thread Reference.nD Reference.τ).loc Reference.main_arg0)
      = m ((c.tc : Thread Kernel.nD Kernel.τ).loc Kernel.main_arg0))
    (h2 : m' ((c.tc : Thread Reference.nD Reference.τ).loc Reference.main_arg2)
      = m ((c.tc : Thread Kernel.nD Kernel.τ).loc Kernel.main_arg2)) :
    Reference.Whole.result m' c = Kernel.Whole.result m c :=
  congrArg₂ (Halves.beside (n := 1000000)) h2 h0

/-- Everything the certificate claims. -/
theorem claim : Cert.Claim :=
  ⟨Kernel.Gen.facts, KernelIdeal.Gen.facts, ReferenceIdeal.Gen.facts, Reference.Gen.facts,
    fun m ρ _ => Kernel.Gen.frame m ρ,
    fun m ρ _ => KernelIdeal.Gen.frame m ρ,
    fun m ρ _ => ReferenceIdeal.Whole.frame m ρ,
    fun m ρ _ => Reference.Whole.frame m ρ,
    trivial,
    fun m g m' g' _ hagree => ⟨fun c => KernelIdeal.Whole.result m c, KernelIdeal.Whole.run m g,
      (θ_run _ _ _).mono (fun _ h c => ⟨(h c).1.trans (result_ideal m m' c (hagree c).1 (hagree c).2.2), (h c).2⟩)
        (ReferenceIdeal.Whole.run m' g')⟩,
    fun m g m' g' _ hagree => ⟨fun c => Kernel.Whole.result m c, Kernel.Whole.run m g,
      (θ_run _ _ _).mono (fun _ h c => ⟨(h c).1.trans (result_bits m m' c (hagree c).1 (hagree c).2.2), (h c).2⟩)
        (Reference.Whole.run m' g')⟩⟩

end Cert.Proof

end
